-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : FVec F S512x512 .f32) (main_arg2 : FVec F S512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_x_finite_ReferenceIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) (main_arg1 : FVec F S1024x512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S512 : Shape := ⟨1, ![512]⟩
abbrev S2x512 : Shape := ⟨2, ![2, 512]⟩
abbrev S2x2 : Shape := ⟨2, ![2, 2]⟩
abbrev S_ : Shape := ⟨0, ![]⟩
abbrev S1x1 : Shape := ⟨2, ![1, 1]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S512x512, .f32⟩
  | .local _ .vmem, ⟨1, _⟩ => ⟨S512x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v113 : BitVec 32 := Scalar.muli v2 c4_i32_80
  let v114 : BitVec 32 := Scalar.addi c0_i32_81 v113
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_82 : BitVec 32 := 2#32
  let v115 : BitVec 32 := Scalar.muli v9 c2_i32_82
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v117 : BitVec 32 := Scalar.muli v8 c1_i32_83
  let v118 : BitVec 32 := Scalar.addi v116 v117
  v118.toNat
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
# The exchange along the mesh's `y` axis: peers, cells, contents, schedule, levels

Eight devices sit on a 2×2×2 mesh `(x, y, z)`; the kernel pairs each device with the one that differs from it in `y` alone.
Each device reduces its own 512 rows to a 2×512 block (row 0 the partial `dgamma`, row 1 the partial `dbeta`), hands its peer
one unit on the runtime's barrier semaphore, sends the block into the peer's landing buffer, and adds what it received.

Three cells per device carry the exchange, each with a single duty at a single round:

* the barrier cell: the peer's unit, which brings the peer's landing buffer;
* the receive cell: the credit of the peer's transfer, which brings the landing buffer filled with the peer's block;
* the send cell: the credit of the device's own transfer, which brings back the share of its block it had lent.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix2)

variable {F : FTy → Type} [FloatOps F]

/-! ## The resource algebra: the pipeline library's copy, the exchange's rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

set_option backward.proofsInPublic true in
/-- The device differing from `c` in its `y` coordinate alone. -/
def peer (c : Dev nD) : Dev nD := ⟨4 * (c.val / 4) + c.val % 2 + 2 - 2 * (c.val / 2 % 2), by have : c.val < 8 := c.isLt; show _ < 8; omega⟩

theorem peer_peer (c : Dev nD) : peer (peer c) = c := by revert c; decide
/-- The kernel's two `device_id` chains both name the peer. -/
theorem dev1_peer (c : Dev nD) : (⟨k0_dev1 c, k0_dev1_lt c⟩ : Dev nD) = peer c := by revert c; decide
theorem dev2_peer (c : Dev nD) : (⟨k0_dev2 c, k0_dev2_lt c⟩ : Dev nD) = peer c := by revert c; decide

def swap : Dev nD ≃ Dev nD := ⟨peer, peer, peer_peer, peer_peer⟩

/-! ## Buffers and cells -/

abbrev partM : Memref sig .tc .vmem S2x512 .f32 := Memref.whole cc0_scratch2
abbrev commM : Memref sig .tc .vmem S2x512 .f32 := Memref.whole cc0_scratch3

abbrev barS : Sem sig := (SemArray.scalar (sig.barrier 0 rfl) : Sems sig S_).sem
abbrev outS : DmaSems sig S_ := cc0_scratch6
abbrev sendS : DmaSems sig S_ := cc0_scratch7
abbrev recvS : DmaSems sig S_ := cc0_scratch8
/-- The four input copies' semaphores, as the body slices them out of their 2×2 array. -/
abbrev inS00 : DmaSem sig := ((cc0_scratch5.slice (Rect.unit (s := S2x2) ![0, 0] S1x1.size inb_S2x2_S1x1_0_0)).squeeze S_ squeezes_S1x1_S_).sem
abbrev inS01 : DmaSem sig := ((cc0_scratch5.slice (Rect.unit (s := S2x2) ![0, 1] S1x1.size inb_S2x2_S1x1_0_1)).squeeze S_ squeezes_S1x1_S_).sem
abbrev inS10 : DmaSem sig := ((cc0_scratch5.slice (Rect.unit (s := S2x2) ![1, 0] S1x1.size inb_S2x2_S1x1_1_0)).squeeze S_ squeezes_S1x1_S_).sem
abbrev inS11 : DmaSem sig := ((cc0_scratch5.slice (Rect.unit (s := S2x2) ![1, 1] S1x1.size inb_S2x2_S1x1_1_1)).squeeze S_ squeezes_S1x1_S_).sem

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The credit of one transfer of a 2×512 block. -/
abbrev N : ℕ := (commM : Memref sig .tc .vmem S2x512 .f32).view.dmaCredit
theorem N_pos : 0 < N := View.dmaCredit_pos _ (by decide)

/-! ## Contents -/

/-- Rows `0..255` and rows `256..511` of a device's 512×512 block. -/
def upper (X : S512x512.Idx → Elt F .f32) : Vec F S256x512 .f32 :=
  fun i => X (ix2 (⟨(i 0).val, lt_of_lt_of_le (i 0).isLt (by decide)⟩ : Fin 512) (i 1))
def lower (X : S512x512.Idx → Elt F .f32) : Vec F S256x512 .f32 :=
  fun i => X (ix2 (⟨256 + (i 0).val, Nat.add_lt_add_left (i 0).isLt 256⟩ : Fin 512) (i 1))

/-- The partial `dgamma` row the body computes from the block `X` of `x` and `Y` of `dy`: the skeleton's payloads composed. -/
def gammaRow (X Y : S512x512.Idx → Elt F .f32) : FVec F S1x512 .f32 :=
  k0_pay11 (k0_pay6 k0_pay2 (upper X) (upper Y) (k0_pay4 (upper X)) (k0_pay5 (upper X))) (lower X) (lower Y)
    (k0_pay8 (lower X)) (k0_pay9 (lower X)) k0_pay10
/-- The partial `dbeta` row. -/
def betaRow (Y : S512x512.Idx → Elt F .f32) : FVec F S1x512 .f32 := k0_pay12 (k0_pay7 k0_pay3 (upper Y)) (lower Y)

/-- The 2×512 block of partial sums. -/
def part (X Y : S512x512.Idx → Elt F .f32) : S2x512.Idx → Elt F .f32 :=
  fun i => if (i 0).val = 0 then gammaRow X Y (ix2 (0 : Fin 1) (i 1)) else betaRow Y (ix2 (0 : Fin 1) (i 1))

/-- Device `c`'s blocks at launch, and its block of partial sums. -/
def xOf (c : Dev nD) : S512x512.Idx → Elt F .f32 := m ((c : Thread nD τ).loc main_arg0)
def yOf (c : Dev nD) : S512x512.Idx → Elt F .f32 := m ((c : Thread nD τ).loc main_arg1)
def partOf (c : Dev nD) : S2x512.Idx → Elt F .f32 := part (xOf m c) (yOf m c)
/-- What device `c` stores and copies out: its own partial sums plus its peer's. -/
def outOf (c : Dev nD) : S2x512.Idx → Elt F .f32 := k0_pay1 (partOf m c) (partOf m (peer c))

/-- Device `c`'s partial-sum buffer at its contents, at share `q`. -/
def partPts (c : Dev nD) (q : PosShare TreeShare) : sProp 𝕄 :=
  (partM : Memref sig .tc .vmem S2x512 .f32).view.loc (c : Thread nD τ) ↦[(partM : Memref sig .tc .vmem S2x512 .f32).view.set]{q} partOf m c
/-- Device `c`'s landing buffer at contents `f`. -/
def commPts (c : Dev nD) (f : Buf (Elt F) ((commM : Memref sig .tc .vmem S2x512 .f32).view.loc (c : Thread nD τ))) : sProp 𝕄 :=
  (commM : Memref sig .tc .vmem S2x512 .f32).view.loc (c : Thread nD τ) ↦[(commM : Memref sig .tc .vmem S2x512 .f32).view.set]{fullShare} f

instance partPts_storable (c : Dev nD) (q) : BI.Storable (upEmb : UEmb _ 𝕄) (partPts (F := F) m c q) := by unfold partPts; infer_instance
omit [FloatOps F] in
instance commPts_storable (c : Dev nD) (f) : BI.Storable (upEmb : UEmb _ 𝕄) (commPts (F := F) c f) := by unfold commPts; infer_instance

omit [FloatOps F] in
theorem commPts_whole (c : Dev nD) (f : Buf (Elt F) ((c : Thread nD τ).loc cc0_scratch3)) :
    commPts c f = (((c : Thread nD τ).loc cc0_scratch3) ↦{fullShare} f : sProp 𝕄) := by unfold commPts; rw [View.set_whole]
theorem partPts_whole (c : Dev nD) (q) :
    partPts m c q = (((c : Thread nD τ).loc cc0_scratch2) ↦{q} partOf m c : sProp 𝕄) := by unfold partPts; rw [View.set_whole]

omit [FloatOps F] in
/-- A transfer of the whole block over anything leaves the block. -/
theorem copied (c : Dev nD) (fd : Buf (Elt F) ((commM : Memref sig .tc .vmem S2x512 .f32).view.loc (c : Thread nD τ))) (fs : S2x512.Idx → Elt F .f32) :
    (commM : Memref sig .tc .vmem S2x512 .f32).view.write (Elt F) fd ((partM : Memref sig .tc .vmem S2x512 .f32).view.read (Elt F) fs) Finset.univ = fs := by
  show (View.whole cc0_scratch3).write (Elt F) fd ((View.whole cc0_scratch2).read (Elt F) fs) Finset.univ = fs
  rw [View.read_whole]
  exact View.write_whole_univ _ _ _

/-! ## The schedule -/

/-- What the peer's barrier unit brings `c`: the peer's landing buffer, and that the peer's receive cell is at round 0. -/
def barPay (c : Dev nD) : sProp 𝕄 := iprop((∃ f, commPts (peer c) f) ∗ reached ER (recvCell (peer c)) 0)

/-- The kinds of cell the schedule names. -/
abbrev AtBar (g : GSem nD τ sig) : Prop := g.1.2 = .tc ∧ g.2 = .reg barS
abbrev AtSend (g : GSem nD τ sig) : Prop := g.1.2 = .tc ∧ g.2 = .dma sendS.sem
abbrev AtRecv (g : GSem nD τ sig) : Prop := g.1.2 = .tc ∧ g.2 = .dma recvS.sem

/-- One duty at round 0 of each barrier, send and receive cell. -/
def exch : Rounds.Schedule (GSem nD τ sig) Unit 𝕄 where
  duties g r := if r = 0 ∧ (AtBar g ∨ AtSend g ∨ AtRecv g) then {()} else ∅
  unitless _ := False
  amount g _ _ := if g.2 = .reg barS then 1 else N
  payload g _ _ :=
    if g.2 = .reg barS then barPay g.1.1
    else if g.2 = .dma recvS.sem then commPts g.1.1 (partOf m (peer g.1.1))
    else if g.2 = .dma sendS.sem then partPts m g.1.1 fullShare.right
    else iprop(emp)
  amount_pos g _ _ _ := by split; exacts [Nat.one_pos, N_pos]

instance exch_storable (g : GSem nD τ sig) (r : ℕ) (d : Unit) : BI.Storable (upEmb : UEmb _ 𝕄) ((exch (F := F) m).payload g r d) := by
  show BI.Storable upEmb (if g.2 = .reg barS then barPay g.1.1
    else if g.2 = .dma recvS.sem then commPts g.1.1 (partOf m (peer g.1.1))
    else if g.2 = .dma sendS.sem then partPts m g.1.1 fullShare.right
    else iprop(emp))
  unfold barPay
  (repeat' split) <;> infer_instance

theorem sendS_ne_recvS : (SemLoc.dma sendS.sem : SemLoc sig) ≠ .dma recvS.sem := by decide
theorem dma_ne_bar (q : DmaSem sig) : (SemLoc.dma q : SemLoc sig) ≠ .reg barS := fun h => by cases h

section Sched
variable (c : Dev nD)

theorem duties_bar : (exch (F := F) m).duties (barCell c) 0 = {()} := by dsimp only [exch]; exact if_pos ⟨rfl, .inl ⟨rfl, rfl⟩⟩
theorem duties_send : (exch (F := F) m).duties (sendCell c) 0 = {()} := by dsimp only [exch]; exact if_pos ⟨rfl, .inr (.inl ⟨rfl, rfl⟩)⟩
theorem duties_recv : (exch (F := F) m).duties (recvCell c) 0 = {()} := by dsimp only [exch]; exact if_pos ⟨rfl, .inr (.inr ⟨rfl, rfl⟩)⟩
theorem duties_later (g : GSem nD τ sig) : ∀ r, 1 ≤ r → (exch (F := F) m).duties g r = ∅ :=
  fun r hr => by dsimp only [exch]; exact if_neg fun h => absurd h.1 (by omega)

theorem amount_bar (d : Unit) : (exch (F := F) m).amount (barCell c) 0 d = 1 := by dsimp only [exch]; exact if_pos rfl
theorem amount_send (d : Unit) : (exch (F := F) m).amount (sendCell c) 0 d = N := by dsimp only [exch]; exact if_neg (dma_ne_bar _)
theorem amount_recv (d : Unit) : (exch (F := F) m).amount (recvCell c) 0 d = N := by dsimp only [exch]; exact if_neg (dma_ne_bar _)

theorem expect_bar : (exch (F := F) m).expect (barCell c) 0 = 1 := by
  unfold Schedule.expect Schedule.amountOf; rw [duties_bar, Finset.sum_singleton, amount_bar]
theorem expect_send : (exch (F := F) m).expect (sendCell c) 0 = N := by
  unfold Schedule.expect Schedule.amountOf; rw [duties_send, Finset.sum_singleton, amount_send]
theorem expect_recv : (exch (F := F) m).expect (recvCell c) 0 = N := by
  unfold Schedule.expect Schedule.amountOf; rw [duties_recv, Finset.sum_singleton, amount_recv]

theorem payload_bar (d : Unit) : (exch (F := F) m).payload (barCell c) 0 d = barPay c := by dsimp only [exch]; exact if_pos rfl
theorem payload_send (d : Unit) : (exch (F := F) m).payload (sendCell c) 0 d = partPts m c fullShare.right := by
  dsimp only [exch]; rw [if_neg (dma_ne_bar _), if_neg sendS_ne_recvS, if_pos rfl]
theorem payload_recv (d : Unit) : (exch (F := F) m).payload (recvCell c) 0 d = commPts c (partOf m (peer c)) := by
  dsimp only [exch]; rw [if_neg (dma_ne_bar _), if_pos rfl]

/-- All of a cell's round, no duty taken yet: its one payload. -/
theorem rest_bar : bigSep ((exch (F := F) m).duties (barCell c) 0 \ ∅) (fun d => (exch (F := F) m).payload (barCell c) 0 d) = barPay c := by
  rw [Finset.sdiff_empty, duties_bar, bigSep_singleton, payload_bar]
theorem rest_send : bigSep ((exch (F := F) m).duties (sendCell c) 0 \ ∅) (fun d => (exch (F := F) m).payload (sendCell c) 0 d) = partPts m c fullShare.right := by
  rw [Finset.sdiff_empty, duties_send, bigSep_singleton, payload_send]
theorem rest_recv : bigSep ((exch (F := F) m).duties (recvCell c) 0 \ ∅) (fun d => (exch (F := F) m).payload (recvCell c) 0 d) = commPts c (partOf m (peer c)) := by
  rw [Finset.sdiff_empty, duties_recv, bigSep_singleton, payload_recv]

end Sched

/-! ## What a device owes, and the levels its waits respect -/

/-- After its barrier unit a device owes the peer's receive cell one block's credit; -/
def owed₁ (c : Dev nD) : CellTallies nD τ sig Unit := tallyAt (recvCell (peer c)) () N
/-- at launch, the peer's barrier unit as well. -/
def owed₀ (c : Dev nD) : CellTallies nD τ sig Unit := owed₁ c + tallyAt (barCell (peer c)) () 1

def lvSet (g : GSem nD τ sig) : Finset Unit := if g.1.2 = .tc then {()} else ∅
/-- Receive cells on top, barrier cells below them, every other cell at the bottom. -/
def lv (g : GSem nD τ sig) (_ : Unit) : ℕ := if g.2 = .dma recvS.sem then 2 else if g.2 = .reg barS then 1 else 0

theorem lvSet_tc (c : Dev nD) (sm : SemLoc sig) : lvSet ((c : Thread nD τ), sm) = {()} := if_pos rfl
theorem lvSet_off (g : GSem nD τ sig) (h : g.1.2 ≠ .tc) : lvSet g = ∅ := if_neg h
theorem lv_recv (c : Dev nD) (u : Unit) : lv (recvCell c) u = 2 := if_pos rfl
theorem bar_ne_dma (q : DmaSem sig) : (SemLoc.reg barS : SemLoc sig) ≠ .dma q := fun h => by cases h
theorem lv_bar (c : Dev nD) (u : Unit) : lv (barCell c) u = 1 := by unfold lv; rw [if_neg (bar_ne_dma _), if_pos rfl]

theorem owed₁_pos {c : Dev nD} {g : GSem nD τ sig} {u : Unit} (h : 0 < owed₁ c g u) : g = recvCell (peer c) := by
  unfold owed₁ at h; rw [tallyAt_apply] at h
  by_contra hn
  rw [if_neg fun h' => hn h'.1] at h; exact Nat.lt_irrefl 0 h
theorem owed₀_pos {c : Dev nD} {g : GSem nD τ sig} {u : Unit} (h : 0 < owed₀ c g u) : g = recvCell (peer c) ∨ g = barCell (peer c) := by
  unfold owed₀ at h
  rw [Pi.add_apply, Finsupp.add_apply, tallyAt_apply] at h
  by_contra hn
  rw [not_or] at hn
  rw [if_neg fun h' => hn.2 h'.1, Nat.add_zero] at h
  exact hn.1 (owed₁_pos h)

omit [FloatOps F] in
/-- A cell at level `k ≤ 1` may be waited for by a device that owes its peer's receive cell only. -/
theorem mayWait_below (c : Dev nD) (sm : SemLoc sig) (h : sm ≠ .dma recvS.sem) :
    (levAts lvSet lv : sProp 𝕄) ⊢ MayWait (c : Thread nD τ) sm () (owed₁ c) :=
  MayOwe.of_cut (L := lvSet) (lev := lv) 1
    (fun p hp => by rw [Finset.mem_singleton.mp hp, lvSet_tc]; exact Finset.mem_singleton_self _)
    (fun g u hg => by rw [owed₁_pos hg, lvSet_tc]; exact Finset.mem_singleton_self _)
    (fun p hp => by rw [Finset.mem_singleton.mp hp]; unfold lv; rw [if_neg h]; split <;> decide)
    (fun g u hg => by rw [owed₁_pos hg, lv_recv]; decide)

end Cert.NormGrad

end
-- ==== Proof.Body.lean ====
module

public import proofs.«01_k».proof.Proof.Protocol
public import Idealize.ShloMosaic.Lib.WritesUnit

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix2)

variable {F : FTy → Type} [FloatOps F]

local notation "𝕄" => MT nD τ sig Unit (Elt F) ℕ UU ℕ

variable (m : (ℓ : Loc nD τ sig) → Buf (Elt F) ℓ) (ρ : Dev nD → PrngReg)

/-- The invariants device `c` opens, under the names `K` they were allocated at. -/
def invs (K : GSem nD τ sig → ℕ) (c : Dev nD) : sProp 𝕄 :=
  iprop(cellInv ER (exch m) (K (barCell c)) (barCell c) ∗ cellInv ER (exch m) (K (sendCell c)) (sendCell c)
    ∗ cellInv ER (exch m) (K (recvCell c)) (recvCell c)
    ∗ cellInv ER (exch m) (K (barCell (peer c))) (barCell (peer c)) ∗ cellInv ER (exch m) (K (recvCell (peer c))) (recvCell (peer c)))

instance invs_persistent (K : GSem nD τ sig → ℕ) (c : Dev nD) : BI.Persistent (invs m K c) := by unfold invs; infer_instance

/-- The exchange's ghost state device `c` starts from. -/
def ghost (K : GSem nD τ sig → ℕ) (c : Dev nD) : sProp 𝕄 :=
  iprop(invs m K c
    ∗ (atPos ER (barCell c) 0 ∅ 0 ∗ atPos ER (sendCell c) 0 ∅ 0 ∗ atPos ER (recvCell c) 0 ∅ 0)
    ∗ (reached ER (barCell (peer c)) 0 ∗ reached ER (recvCell c) 0 ∗ reached ER (sendCell c) 0)
    ∗ (dutyTok ER (barCell (peer c)) 0 () ∗ dutyTok ER (recvCell (peer c)) 0 () ∗ dutyTok ER (sendCell c) 0 ()))

/-- A buffer of device `c` whole at contents `f`. -/
abbrev holds (c : Dev nD) (b : Ref sig .tc) (f : Buf (Elt F) ((Memref.whole b).view.loc (c : Thread nD τ))) : sProp 𝕄 := (Memref.whole b).view.loc (c : Thread nD τ) ↦{fullShare} f
/-- A buffer of device `c` whole at some contents. -/
abbrev some_ (c : Dev nD) (b : Ref sig .tc) : sProp 𝕄 := iprop(∃ f : Buf (Elt F) ((Memref.whole b).view.loc (c : Thread nD τ)), (Memref.whole b).view.loc (c : Thread nD τ) ↦{fullShare} f)

/-- The semaphores of the device's local copies, all at zero. -/
def locals0 (c : Dev nD) : sProp 𝕄 :=
  iprop(semVal ((c : Thread nD τ), .dma inS00) 0 ∗ semVal ((c : Thread nD τ), .dma inS01) 0 ∗ semVal ((c : Thread nD τ), .dma inS10) 0
    ∗ semVal ((c : Thread nD τ), .dma inS11) 0 ∗ semVal ((c : Thread nD τ), .dma outS.sem) 0)

/-! ## A 512×512 buffer as its two row halves -/

abbrev rTop : Rect S512x512 := Rect.unit (s := S512x512) ![0, 0] S256x512.size inb_S512x512_S256x512_0_0
abbrev rBot : Rect S512x512 := Rect.unit (s := S512x512) ![256, 0] S256x512.size inb_S512x512_S256x512_256_0

theorem mem_top (i : S512x512.Idx) : i ∈ rTop.set ↔ (i 0).val < 256 := by
  rw [Rect.mem_set_unit]
  have h1 : (i 1).val < 512 := (i 1).isLt
  refine ⟨fun h => by have h0 : 0 ≤ (i 0).val ∧ (i 0).val < 0 + 256 := h 0; omega, fun h a => ?_⟩
  match a with
  | ⟨0, _⟩ => show 0 ≤ (i 0).val ∧ (i 0).val < 0 + 256; omega
  | ⟨1, _⟩ => show 0 ≤ (i 1).val ∧ (i 1).val < 0 + 512; omega
theorem mem_bot (i : S512x512.Idx) : i ∈ rBot.set ↔ 256 ≤ (i 0).val := by
  rw [Rect.mem_set_unit]
  have h0 : (i 0).val < 512 := (i 0).isLt
  have h1 : (i 1).val < 512 := (i 1).isLt
  refine ⟨fun h => by have h0 : 256 ≤ (i 0).val ∧ (i 0).val < 256 + 256 := h 0; omega, fun h a => ?_⟩
  match a with
  | ⟨0, _⟩ => show 256 ≤ (i 0).val ∧ (i 0).val < 256 + 256; omega
  | ⟨1, _⟩ => show 0 ≤ (i 1).val ∧ (i 1).val < 0 + 512; omega
theorem top_bot_disjoint : Disjoint rTop.set rBot.set := by
  rw [Finset.disjoint_left]; intro i h h'; rw [mem_top] at h; rw [mem_bot] at h'; omega
theorem top_union_bot : rTop.set ∪ rBot.set = Finset.univ := by
  ext i; rw [Finset.mem_union, mem_top, mem_bot]; simp only [Finset.mem_univ, iff_true]; omega

abbrev xM : Memref sig .tc .vmem S512x512 .f32 := Memref.whole cc0_scratch0
abbrev yM : Memref sig .tc .vmem S512x512 .f32 := Memref.whole cc0_scratch1

/-- The elements of a 512×512 buffer's row half, held at contents `f`. -/
abbrev half (c : Dev nD) (M : Memref sig .tc .vmem S512x512 .f32) (r : Rect S512x512) (h : ∀ a, r.stride a = 1)
    (f : Buf (Elt F) ((M.slice r h).view.loc (c : Thread nD τ))) : sProp 𝕄 :=
  (M.slice r h).view.loc (c : Thread nD τ) ↦[(M.slice r h).view.set]{fullShare} f

omit [FloatOps F] in
theorem half_x (c : Dev nD) (r : Rect S512x512) (h : ∀ a, r.stride a = 1) (f : Buf (Elt F) ((c : Thread nD τ).loc cc0_scratch0)) :
    half c xM r h f = (((c : Thread nD τ).loc cc0_scratch0) ↦[r.set]{fullShare} f : sProp 𝕄) :=
  congrArg (fun S => (((c : Thread nD τ).loc cc0_scratch0) ↦[S]{fullShare} f : sProp 𝕄)) (View.set_slice_whole cc0_scratch0 r)
omit [FloatOps F] in
theorem half_y (c : Dev nD) (r : Rect S512x512) (h : ∀ a, r.stride a = 1) (f : Buf (Elt F) ((c : Thread nD τ).loc cc0_scratch1)) :
    half c yM r h f = (((c : Thread nD τ).loc cc0_scratch1) ↦[r.set]{fullShare} f : sProp 𝕄) :=
  congrArg (fun S => (((c : Thread nD τ).loc cc0_scratch1) ↦[S]{fullShare} f : sProp 𝕄)) (View.set_slice_whole cc0_scratch1 r)

omit [FloatOps F] in
theorem split_x (c : Dev nD) (f : Buf (Elt F) ((c : Thread nD τ).loc cc0_scratch0)) :
    holds c cc0_scratch0 f ⊢ iprop(half c xM rTop (fun _ => rfl) f ∗ half c xM rBot (fun _ => rfl) f) := by
  rw [half_x, half_x]
  show (((c : Thread nD τ).loc cc0_scratch0) ↦[Finset.univ]{fullShare} f : sProp 𝕄) ⊢ _
  rw [← top_union_bot]; exact (pointsTo_union top_bot_disjoint).1
omit [FloatOps F] in
theorem split_y (c : Dev nD) (f : Buf (Elt F) ((c : Thread nD τ).loc cc0_scratch1)) :
    holds c cc0_scratch1 f ⊢ iprop(half c yM rTop (fun _ => rfl) f ∗ half c yM rBot (fun _ => rfl) f) := by
  rw [half_y, half_y]
  show (((c : Thread nD τ).loc cc0_scratch1) ↦[Finset.univ]{fullShare} f : sProp 𝕄) ⊢ _
  rw [← top_union_bot]; exact (pointsTo_union top_bot_disjoint).1

/-! ## What the body reads and writes, as values -/

omit [FloatOps F] in
/-- A row half of a scratch buffer, just filled by a copy, reads back the copy's payload. -/
theorem read_filled (b : Ref sig .tc) (r : Rect b.ty.shape) (h : ∀ a, r.stride a = 1) (g : b.ty.Contents (Elt F)) (w : r.shape.Idx → Elt F b.ty.elt) :
    View.readAt (Elt F) (Memref.whole b).view r.toLoadRect
        ((((Memref.whole b).slice r h).view).writes (Elt F) g [⟨Rect.whole r.shape, w⟩]) = w :=
  View.read_writes_whole ((Memref.whole b).slice r h).view g w

omit [FloatOps F] in
/-- The copies' payloads: the two row halves of the source. -/
theorem read_upper (X : S512x512.Idx → Elt F .f32) :
    (fun i => X (rTop.emb i) : Vec F S256x512 .f32) = upper X := by
  funext i
  refine congrArg X (funext fun a => Fin.ext ?_)
  match a with
  | ⟨0, _⟩ => show 0 + 1 * (i 0).val = (i 0).val; omega
  | ⟨1, _⟩ => show 0 + 1 * (i 1).val = (i 1).val; omega
omit [FloatOps F] in
theorem read_lower (X : S512x512.Idx → Elt F .f32) :
    (fun i => X (rBot.emb i) : Vec F S256x512 .f32) = lower X := by
  funext i
  refine congrArg X (funext fun a => Fin.ext ?_)
  match a with
  | ⟨0, _⟩ => show 256 + 1 * (i 0).val = 256 + (i 0).val; omega
  | ⟨1, _⟩ => show 0 + 1 * (i 1).val = (i 1).val; omega

omit [FloatOps F] in
/-- Two stored rows read back, whatever was there. -/
theorem read_rows {sp : Space} (v : View sig .tc sp S2x512 .f32) (γ β : Vec F S1x512 .f32) (f : v.ty.Contents (Elt F)) (y : S2x512.Idx) :
    v.read (Elt F) (v.writes (Elt F) f
        [⟨Rect.unit ![1, 0] ![1, 512] inb_S2x512_S1x512_1_0, β⟩, ⟨Rect.unit ![0, 0] ![1, 512] inb_S2x512_S1x512_0_0, γ⟩]) y
      = if (y 0).val = 0 then γ (ix2 (0 : Fin 1) (y 1)) else β (ix2 (0 : Fin 1) (y 1)) := by
  have hy : (y 0).val < 2 := (y 0).isLt
  by_cases h : (y 0).val = 0
  · rw [if_pos h]
    refine (View.read_writes_cons_unit_of_not_mem v f inb_S2x512_S1x512_1_0 β _ y rfl (0 : Fin 2) (Or.inl ?_)).trans
      (View.read_writes_cons_unit_of_mem v f inb_S2x512_S1x512_0_0 γ [] y (ix2 (0 : Fin 1) (y 1)) rfl (Fin.forall_fin_two.mpr ⟨?_, ?_⟩))
    · show (y 0).val < 1; omega
    · show (y 0).val = 0 + 0; omega
    · show (y 1).val = 0 + (y 1).val; omega
  · rw [if_neg h]
    refine View.read_writes_cons_unit_of_mem v f inb_S2x512_S1x512_1_0 β _ y (ix2 (0 : Fin 1) (y 1)) rfl (Fin.forall_fin_two.mpr ⟨?_, ?_⟩)
    · show (y 0).val = 1 + 0; omega
    · show (y 1).val = 0 + (y 1).val; omega

omit [FloatOps F] in
theorem stored_rows (γ β : Vec F S1x512 .f32) (f : S2x512.Idx → Elt F .f32) :
    (partM : Memref sig .tc .vmem S2x512 .f32).view.writes (Elt F) f
        [⟨Rect.unit ![1, 0] ![1, 512] inb_S2x512_S1x512_1_0, β⟩, ⟨Rect.unit ![0, 0] ![1, 512] inb_S2x512_S1x512_0_0, γ⟩]
      = (fun i => if (i 0).val = 0 then γ (ix2 (0 : Fin 1) (i 1)) else β (ix2 (0 : Fin 1) (i 1)) : S2x512.Idx → Elt F .f32) := (View.read_whole cc0_scratch2 _).symm.trans (funext fun y => read_rows (partM : Memref sig .tc .vmem S2x512 .f32).view γ β f y)

omit [FloatOps F] in
/-- A store of a whole 2×512 buffer reads back. -/
theorem read_stored {sp : Space} (v : View sig .tc sp S2x512 .f32) (w : Vec F S2x512 .f32) (f : v.ty.Contents (Elt F)) :
    v.read (Elt F) (v.writes (Elt F) f [⟨Rect.unit ![0, 0] ![2, 512] inb_S2x512_S2x512_0_0, w⟩]) = w := by
  funext y
  refine View.read_writes_cons_unit_of_mem v f inb_S2x512_S2x512_0_0 w [] y y rfl (Fin.forall_fin_two.mpr ⟨?_, ?_⟩)
  · show (y 0).val = 0 + (y 0).val; omega
  · show (y 1).val = 0 + (y 1).val; omega

theorem at_origin : (![0, 0] : Fin 2 → ℕ) = fun _ => 0 := by
  funext a; match a with
  | ⟨0, _⟩ => rfl
  | ⟨1, _⟩ => rfl

variable (K : GSem nD τ sig → ℕ)

/-- The remote copy, addressed to `n = peer c`: it borrows the right share of the device's block and the peer's landing buffer. -/
theorem send_peer (c n : Dev nD) (hn : n = peer c) {hsc : (commM : Memref sig (Dev.tc n : Thread nD τ).2.kind .vmem S2x512 .f32).view.ref.isScScratch = false}
    {hsrc : (partM : Memref sig .tc .vmem S2x512 .f32).view.WordExact} {hdst : (commM : Memref sig .tc .vmem S2x512 .f32).view.WordExact}
    {hsem : DmaTarget.Typed .vmem (.dma recvS.sem) (.remote (Dev.tc n : Thread nD τ) (commM : Memref sig .tc .vmem S2x512 .f32) (.dma sendS.sem) hsc)}
    {α : Type} {Q : α → sProp 𝕄} {k : PUnit → Prog (TpuEff nD τ sig (Elt F) Λ₀ .tc) α}
    (fn : Buf (Elt F) ((commM : Memref sig .tc .vmem S2x512 .f32).view.loc (peer c : Thread nD τ))) (W : Waits sig Unit) :
    iprop(cellInv ER (exch m) (K (sendCell c)) (sendCell c) ∗ cellInv ER (exch m) (K (recvCell (peer c))) (recvCell (peer c))
        ∗ partPts m c fullShare.right ∗ commPts (peer c) fn
        ∗ owes (c : Thread nD τ) (owed₁ c) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) commM (.dma sendS.sem) hsc) (.dma recvS.sem) hsrc hdst hsem) k) Q) := by
  subst hn
  unfold partPts commPts owed₁
  exact Rounds.wp_send_pointsTo 𝒱₀ ER (exch m) (c : Thread nD τ) none (κ₁ := K (sendCell c)) (κ₂ := K (recvCell (peer c)))
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by rw [payload_recv, peer_peer]; unfold commPts; rw [copied])

/-- What the body leaves: every semaphore at zero, the arguments as they were and the result written; -/
def left (c : Dev nD) : sProp 𝕄 :=
  iprop(locals0 c ∗ (semVal (sendCell c) 0 ∗ semVal (recvCell c) 0 ∗ semVal (barCell c) 0)
    ∗ (holds c main_arg0 (xOf m c) ∗ holds c main_arg1 (yOf m c) ∗ holds c main_v1 (outOf m c))
    ∗ some_ c cc0_scratch0 ∗ some_ c cc0_scratch1 ∗ some_ c cc0_scratch2 ∗ some_ c cc0_scratch3 ∗ some_ c cc0_scratch4)
/-- and nothing owed. -/
def done (c : Dev nD) : sProp 𝕄 := iprop((∃ W, owes (c : Thread nD τ) 0 W) ∗ left m c)

omit [FloatOps F] in
/-- The two row halves of a scratch buffer, at any contents, are the buffer again. -/
theorem join_x (c : Dev nD) (f g : Buf (Elt F) ((c : Thread nD τ).loc cc0_scratch0)) :
    iprop(half c xM rTop (fun _ => rfl) f ∗ half c xM rBot (fun _ => rfl) g) ⊢ some_ c cc0_scratch0 := by
  rw [half_x, half_x]
  refine (pointsTo_join top_bot_disjoint).trans ?_
  rw [top_union_bot]
  iintro H; iexists _; iexact H
omit [FloatOps F] in
theorem join_y (c : Dev nD) (f g : Buf (Elt F) ((c : Thread nD τ).loc cc0_scratch1)) :
    iprop(half c yM rTop (fun _ => rfl) f ∗ half c yM rBot (fun _ => rfl) g) ⊢ some_ c cc0_scratch1 := by
  rw [half_y, half_y]
  refine (pointsTo_join top_bot_disjoint).trans ?_
  rw [top_union_bot]
  iintro H; iexists _; iexact H

/-- The whole body on device `c`, from its ghost state, its two credits and its buffers. -/
theorem body_run (c : Dev nD) (W : Waits sig Unit) :
    iprop(ghost m K c ∗ cred (tallyAt (barCell c) () 1) ∗ cred (tallyAt (recvCell c) () N) ∗ levAts lvSet lv
        ∗ locals0 c ∗ owes (c : Thread nD τ) (owed₀ c) W
        ∗ holds c main_arg0 (xOf m c) ∗ holds c main_arg1 (yOf m c)
        ∗ some_ c main_v1 ∗ some_ c cc0_scratch0 ∗ some_ c cc0_scratch1 ∗ some_ c cc0_scratch2 ∗ some_ c cc0_scratch3 ∗ some_ c cc0_scratch4)
      ⊢ wp frame (wpE (defs₀ (F := F)) 𝒱₀ c none) Set.univ
          (cc0_body (Memref.whole main_arg0) (Memref.isWhole_whole _) (Memref.whole main_arg1) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8) (fun _ => done m c) := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId, dev1_peer c, dev2_peer c]
  unfold ghost invs locals0
  iintro ⟨⟨⟨#HIB, #HIS, #HIV, #HIBp, #HIVp⟩, ⟨HaB, HaS, HaV⟩, ⟨#HrBp, #HrV, #HrS⟩, HtB, HtV, HtS⟩, HcB, HcV, #Hlev,
    ⟨Hs00, Hs01, Hs10, Hs11, Hso⟩, HO, Hx, Hy, ⟨%fo, Ho⟩, ⟨%f0, H0⟩, ⟨%f1, H1⟩, ⟨%f2, H2⟩, ⟨%f3, H3⟩, ⟨%f4, H4⟩⟩
  unfold owed₀
  iapply (Rounds.wp_signal 𝒱₀ ER (exch m) (c : Thread nD τ) none (dst := (peer c : Thread nD τ)) (κ := K (barCell (peer c)))
      (d := ()) (by rw [duties_bar]; exact Finset.mem_singleton_self _) ((amount_bar m (peer c) ()).trans (by decide)) () (owed₁ c) rfl)
    $$ [HO HtB H3]
  · isplitr; · iexact HIBp
    isplitl [HO]; · iexact HO
    isplitl [HtB]; · iexact HtB
    isplitl [H3]
    · rw [payload_bar]; unfold barPay; rw [peer_peer]
      isplitl [H3]
      · iexists f3; iapply (Entails.of_eq (commPts_whole c f3).symm); iexact H3
      iexact HrV
    · iexact HrBp
  iintro HO
  have hm00 := mayWait_below (F := F) c (.dma inS00) (by decide)
  have hm01 := mayWait_below (F := F) c (.dma inS01) (by decide)
  have hm10 := mayWait_below (F := F) c (.dma inS10) (by decide)
  have hm11 := mayWait_below (F := F) c (.dma inS11) (by decide)
  ihave Hsx := (split_x c f0) $$ H0
  icases Hsx with ⟨H0t, H0b⟩
  ihave Hsy := (split_y c f1) $$ H1
  icases Hsy with ⟨H1t, H1b⟩
  sl_exec
  have e0 : body_run.sl.x m c = upper (xOf m c) := (read_filled cc0_scratch0 rTop _ _ _).trans (read_upper (xOf m c))
  have e1 : body_run.sl.x_1 m c = upper (yOf m c) := (read_filled cc0_scratch1 rTop _ _ _).trans (read_upper (yOf m c))
  have e2 : body_run.sl.x_2 m c = lower (xOf m c) := (read_filled cc0_scratch0 rBot _ _ _).trans (read_lower (xOf m c))
  have e3 : body_run.sl.x_3 m c = lower (yOf m c) := (read_filled cc0_scratch1 rBot _ _ _).trans (read_lower (yOf m c))
  rw [e0, e1, e2, e3]
  ihave H2 := (Entails.of_eq (congrArg (fun f => holds c cc0_scratch2 f) (stored_rows _ _ f2))) $$ H2
  ihave H2 : (((c : Thread nD τ).loc cc0_scratch2) ↦{fullShare} partOf m c) $$ [H2]
  · iexact H2
  ihave H2s := (pointsTo_share (PosShare.mem_left_op_right fullShare)).1 $$ H2
  icases H2s with ⟨H2l, H2r⟩
  ihave H2r' := (Entails.of_eq (partPts_whole m c fullShare.right).symm) $$ H2r
  iapply (Rounds.wp_wait_rest_token 𝒱₀ ER (exch m) (c : Thread nD τ) none (κ := K (barCell c))
      (wpE_semWait_eq 𝒱₀ (c : Thread nD τ) none Set.univ) (Set.mem_univ _) () (O := owed₁ c) (R := 0) (m := 0) (T := ∅)
      (by rw [expect_bar]; decide)) $$ [HcB HO HaB]
  · isplitr; · iexact HIB
    isplitl [HcB]; · iexact HcB
    isplitl [HO]; · iexact HO
    isplitr; · iapply (mayWait_below (F := F) c (.reg barS) (by decide)); iexact Hlev
    iexact HaB
  iintro ⟨HO, HaB, -, Hpay⟩
  ihave Hp := (Entails.of_eq (rest_bar m c)) $$ Hpay
  unfold barPay
  icases Hp with ⟨⟨%fn, Hc⟩, #HrVp⟩
  iapply (send_peer m K c _ (dev2_peer c) fn _) $$ [H2r' Hc HO HtS HtV]
  · isplitr; · iexact HIS
    isplitr; · iexact HIVp
    isplitl [H2r']; · iexact H2r'
    isplitl [Hc]; · iexact Hc
    isplitl [HO]; · iexact HO
    isplitl [HtS]; · iexact HtS
    isplitr; · iexact HrS
    isplitl [HtV]; · iexact HtV
    iexact HrVp
  iintro ⟨HcS, HO⟩
  iapply (Rounds.wp_wait_rest_token 𝒱₀ ER (exch m) (c : Thread nD τ) none (κ := K (recvCell c))
      (wpE_waitDma2_eq 𝒱₀ (c : Thread nD τ) none Set.univ) (Set.mem_univ _) () (O := 0) (R := 0) (m := 0) (T := ∅)
      (by rw [Nat.zero_add, expect_recv])) $$ [HcV HO HaV]
  · isplitr; · iexact HIV
    isplitl [HcV]; · iexact HcV
    isplitl [HO]; · iexact HO
    isplitr; · rw [MayWait_zero]; iempintro
    iexact HaV
  iintro ⟨HO, HaV, -, Hpay⟩
  ihave Hp := (Entails.of_eq (rest_recv m c)) $$ Hpay
  ihave H3 := (Entails.of_eq (commPts_whole c (partOf m (peer c)))) $$ Hp
  ihave H3' : holds c cc0_scratch3 (partOf m (peer c)) $$ [H3]
  · iexact H3
  ihave H2' : ((Memref.whole cc0_scratch2).view.loc (c : Thread nD τ) ↦{fullShare.left} partOf m c) $$ [H2l]
  · iexact H2l
  sl_exec
  have e4 : body_run.sl.dma4 m c f4 = outOf m c := by
    unfold body_run.sl.dma4 body_run.sl.H4_1
    rw [show View.readAt (Elt F) (Memref.whole cc0_scratch2).view (Rect.unit ![0, 0] ![2, 512] inb_S2x512_S2x512_0_0).toLoadRect (partOf m c) = partOf m c
        from Memref.readAt_unit_zero (Elt F) cc0_scratch2 at_origin _ _,
      show View.readAt (Elt F) (Memref.whole cc0_scratch3).view (Rect.unit ![0, 0] ![2, 512] inb_S2x512_S2x512_0_0).toLoadRect (partOf m (peer c)) = partOf m (peer c)
        from Memref.readAt_unit_zero (Elt F) cc0_scratch3 at_origin _ _]
    exact read_stored (Memref.whole cc0_scratch4 : Memref sig .tc .vmem S2x512 .f32).view _ f4
  have e5 : View.write (Elt F) (Memref.whole main_v1).view fo (body_run.sl.dma4 m c f4) Finset.univ = outOf m c := by
    rw [e4]; exact View.write_whole_univ _ _ _
  ihave Ho' := (Entails.of_eq (congrArg (fun f => holds c main_v1 f) e5)) $$ Ho
  rw [wp_ret]
  imod (Rounds.cell_close ER (exch m) (Set.mem_univ (K (barCell c))) (fun h => h) (R := 0 + 1) (duties_later m (barCell c))) $$ [HaB] with Hzb
  · isplitr; · iexact HIB
    iexact HaB
  imod (Rounds.cell_close ER (exch m) (Set.mem_univ (K (recvCell c))) (fun h => h) (R := 0 + 1) (duties_later m (recvCell c))) $$ [HaV] with Hzv
  · isplitr; · iexact HIV
    iexact HaV
  imod (Rounds.cell_close ER (exch m) (Set.mem_univ (K (sendCell c))) (fun h => h) (R := 0 + 1) (duties_later m (sendCell c))) $$ [HaS] with Hzs
  · isplitr; · iexact HIS
    iexact HaS
  imodintro
  ihave Hpay := (Entails.of_eq ((congrArg (fun S => bigSep S fun d => (exch (F := F) m).payload (sendCell c) 0 d) (Finset.sdiff_empty (s := (exch (F := F) m).duties (sendCell c) 0)).symm).trans (rest_send m c))) $$ HaS_pay1
  ihave H2r := (Entails.of_eq (partPts_whole m c fullShare.right)) $$ Hpay
  unfold done left locals0
  isplitl [HO]; · iexists _; iexact HO
  isplitl [Hs00 Hs01 Hs10 Hs11 Hso]
  · isplitl [Hs00]; · iexact Hs00
    isplitl [Hs01]; · iexact Hs01
    isplitl [Hs10]; · iexact Hs10
    isplitl [Hs11]; · iexact Hs11
    iexact Hso
  isplitl [Hzs Hzv Hzb]
  · isplitl [Hzs]; · iexact Hzs
    isplitl [Hzv]; · iexact Hzv
    iexact Hzb
  isplitl [Hx Hy Ho']
  · isplitl [Hx]; · iexact Hx
    isplitl [Hy]; · iexact Hy
    iexact Ho'
  isplitl [H0t H0b]
  · iapply (join_x c _ _)
    isplitl [H0t]; · iexact H0t
    iexact H0b
  isplitl [H1t H1b]
  · iapply (join_y c _ _)
    isplitl [H1t]; · iexact H1t
    iexact H1b
  isplitl [H2' H2r]
  · iexists (partOf m c)
    iapply (pointsTo_share (PosShare.mem_left_op_right fullShare)).2
    isplitl [H2']; · iexact H2'
    iexact H2r
  isplitl [H3']; · iexists _; iexact H3'
  iexists _; iexact H4

end Cert.NormGrad

end
-- ==== Proof.Launch.lean ====
/-
# The launch: from a memory with zero counters to every device's result

Every device's barrier, send and receive cells get their invariants in one update over all the devices, because the barrier cell and
the receive cell are credited by the peer. The duty tokens are then dealt across the pairs, and the body's run gives the result.
-/
module

public import proofs.«01_k».proof.Proof.Body
public import Idealize.ShloMosaic.Lib.Pipeline.CollectiveSegs

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix2)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The three semaphores of the exchange. -/
def csem : Fin 3 → SemLoc sig := fun
  | 0 => .reg barS | 1 => .dma sendS.sem | 2 => .dma recvS.sem
theorem csem_inj : ∀ k k' : Fin 3, csem k = csem k' → k = k' := by decide

/-- Device `ck.1`'s barrier, send and receive cell. -/
def kcell (ck : Dev nD × Fin 3) : GSem nD τ sig := ((ck.1 : Thread nD τ), csem ck.2)

theorem kcell_inj : Function.Injective kcell := fun x y h =>
  Prod.ext (congrArg (fun g : GSem nD τ sig => g.1.1) h) (csem_inj _ _ (congrArg (fun g : GSem nD τ sig => g.2) h))

/-- The exchange's cells on all the devices, and their duty tokens. -/
def exCells : Finset (GSem nD τ sig) := Finset.univ.map ⟨kcell, kcell_inj⟩
def exToks : Finset (GSem nD τ sig × ℕ × Unit) :=
  Finset.univ.map ⟨fun ck => (kcell ck, 0, ()), fun _ _ h => kcell_inj (congrArg Prod.fst h)⟩

theorem mem_exCells (c : Dev nD) (k : Fin 3) : kcell (c, k) ∈ exCells := Finset.mem_map.mpr ⟨(c, k), Finset.mem_univ _, rfl⟩

omit [FloatOps F] in
theorem three (Φ : Fin 3 → sProp 𝕄) : bigSep Finset.univ Φ = iprop(Φ 0 ∗ Φ 1 ∗ Φ 2) := bigSep_univ_eq_bigSepL [0, 1, 2] (by decide) (by decide) Φ

omit [FloatOps F] in
/-- A product over the cells, device by device. -/
theorem over_cells (Φ : GSem nD τ sig → sProp 𝕄) :
    bigSep exCells Φ = bigSep Finset.univ fun c : Dev nD => bigSep Finset.univ fun k : Fin 3 => Φ (kcell (c, k)) := by
  unfold exCells; rw [bigSep_map, bigSep_univ_prod]; rfl
omit [FloatOps F] in
theorem over_toks : bigSep exToks (fun x => (dutyTok ER x.1 x.2.1 x.2.2 : sProp 𝕄))
    = bigSep Finset.univ fun c : Dev nD => bigSep Finset.univ fun k : Fin 3 => dutyTok ER (kcell (c, k)) 0 () := by
  unfold exToks; rw [bigSep_map, bigSep_univ_prod]; rfl

/-! ## The launch element -/

def u₀ : UU := (initOf (Pipeline.cells cfgs cellOf_inj) (Pipeline.launchToks cfgs cellOf_inj), (initOf exCells exToks, 1))

omit [FloatOps F] in
theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch element gives device `c`: the states, positions, marks and tokens of its own three cells. -/
def G (c : Dev nD) : sProp 𝕄 :=
  iprop((bigSep Finset.univ fun k : Fin 3 => roundState ER (exch m) (kcell (c, k)) 0)
    ∗ (bigSep Finset.univ fun k : Fin 3 => atPos ER (kcell (c, k)) 0 ∅ 0)
    ∗ (bigSep Finset.univ fun k : Fin 3 => reached ER (kcell (c, k)) 0)
    ∗ (bigSep Finset.univ fun k : Fin 3 => dutyTok ER (kcell (c, k)) 0 ()))
/-- What device `c` starts with, the invariants allocated and the tokens dealt. -/
def G' (c : Dev nD) : sProp 𝕄 := iprop((∃ K, ghost m K c) ∗ locals0 c)

theorem fund_all : BI.own (ER (initOf exCells exToks)) ⊢ (|==> bigSep Finset.univ (G m) : sProp 𝕄) := by
  iintro HX
  imod (Rounds.fund ER (exch m) exCells exToks) $$ HX with ⟨Hst, Hr, Hat, Htok⟩
  imodintro
  ihave Hst' := (Entails.of_eq (over_cells fun g => roundState ER (exch m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat']; · iexact Hat'
  isplitl [Hr']; · iexact Hr'
  iexact Htok'

/-! ## The semaphores -/

/-- The kernel's seven own semaphores. -/
abbrev osem : Fin 7 → SemLoc sig := fun
  | 0 => .dma inS00 | 1 => .dma inS01 | 2 => .dma inS10 | 3 => .dma inS11 | 4 => .dma outS.sem | 5 => .dma sendS.sem | 6 => .dma recvS.sem

theorem ownSemFacts : Pipeline.OwnSemFacts cfg0.spec osem := by decide

omit [FloatOps F] in
theorem own_sems (c : Dev nD) : (Pipeline.ownSems0 (Ix := Unit) (Name := ℕ) (U := UU) (Lvl := ℕ) (Val := Elt F) (τ := τ) osem c : sProp 𝕄)
    = iprop(semVal ((c : Thread nD τ), .dma inS00) 0 ∗ semVal ((c : Thread nD τ), .dma inS01) 0 ∗ semVal ((c : Thread nD τ), .dma inS10) 0
      ∗ semVal ((c : Thread nD τ), .dma inS11) 0 ∗ semVal ((c : Thread nD τ), .dma outS.sem) 0 ∗ semVal (sendCell c) 0 ∗ semVal (recvCell c) 0) := by
  rw [Pipeline.ownSems0_eq_of_list c osem [0, 1, 2, 3, 4, 5, 6] (by decide) (by decide)]; rfl
omit [FloatOps F] in
/-- The barrier semaphore is the one the launch does not scope. -/
theorem unscoped_sems (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_sorted (c : Dev nD) :
    iprop(Pipeline.ownSems0 (Ix := Unit) (Name := ℕ) (U := UU) (Lvl := ℕ) (Val := Elt F) (τ := τ) osem c ∗ unscopedSems0 c)
      ⊢ (iprop(locals0 c ∗ bigSep Finset.univ fun k : Fin 3 => semVal (kcell (c, k)) 0) : sProp 𝕄) := by
  rw [own_sems, unscoped_sems, three]
  unfold locals0
  iintro ⟨⟨H0, H1, H2, H3, H4, HS, HV⟩, HB⟩
  isplitl [H0 H1 H2 H3 H4]
  · isplitl [H0]; · iexact H0
    isplitl [H1]; · iexact H1
    isplitl [H2]; · iexact H2
    isplitl [H3]; · iexact H3
    iexact H4
  isplitl [HB]; · iexact HB
  isplitl [HS]; · iexact HS
  iexact HV

/-! ## The global step -/

/-- All the cells' invariants at once, at a name per cell. -/
theorem alloc_all : iprop((bigSep exCells fun g => (semVal g 0 : sProp 𝕄)) ∗ bigSep exCells fun g => roundState ER (exch m) g 0)
    ⊢ |={Set.univ}=> iprop(∃ K : GSem nD τ sig → ℕ, bigSep exCells fun g => cellInv ER (exch m) (K g) g) := by
  refine (Rounds.bodies_intro ER (exch m) exCells).trans ((inv_alloc_family exCells (Rounds.body ER (exch m)) ∅ (E := Set.univ)).trans ?_)
  iintro H
  imod H with ⟨%K, -, Hinv⟩
  imodintro; iexists K; iexact Hinv

/-- What every device may copy: all the invariants and all the marks. -/
def shared (K : GSem nD τ sig → ℕ) : sProp 𝕄 :=
  iprop((bigSep exCells fun g => cellInv ER (exch m) (K g) g) ∗ bigSep exCells fun g => reached ER g 0)
instance shared_persistent (K : GSem nD τ sig → ℕ) : BI.Persistent (shared m K) := by unfold shared; infer_instance

theorem inv_of (K : GSem nD τ sig → ℕ) (c : Dev nD) (k : Fin 3) :
    (bigSep exCells fun g => (cellInv ER (exch m) (K g) g : sProp 𝕄)) ⊢ cellInv ER (exch m) (K (kcell (c, k))) (kcell (c, k)) :=
  bigSep_elim (mem_exCells c k)
omit [FloatOps F] in
theorem reached_of (c : Dev nD) (k : Fin 3) : (bigSep exCells fun g => (reached ER g 0 : sProp 𝕄)) ⊢ reached ER (kcell (c, k)) 0 :=
  bigSep_elim (mem_exCells c k)

/-- What is device `c`'s alone: its positions, its local semaphores, the tokens of its own cells. -/
def mine (c : Dev nD) : sProp 𝕄 :=
  iprop(locals0 c ∗ (bigSep Finset.univ fun k : Fin 3 => atPos ER (kcell (c, k)) 0 ∅ 0)
    ∗ dutyTok ER (barCell (peer c)) 0 () ∗ dutyTok ER (recvCell (peer c)) 0 () ∗ dutyTok ER (sendCell c) 0 ())

omit [FloatOps F] in
theorem mine_all : iprop((bigSep Finset.univ fun c : Dev nD => locals0 c)
      ∗ (bigSep Finset.univ fun c : Dev nD => bigSep Finset.univ fun k : Fin 3 => atPos ER (kcell (c, k)) 0 ∅ 0)
      ∗ bigSep Finset.univ fun c : Dev nD => iprop(dutyTok ER (barCell (peer c)) 0 () ∗ dutyTok ER (recvCell (peer c)) 0 () ∗ dutyTok ER (sendCell c) 0 ()))
    ⊢ (bigSep Finset.univ fun c : Dev nD => mine c : sProp 𝕄) := by
  unfold mine
  rw [bigSep_sep' Finset.univ (fun c : Dev nD => locals0 c), bigSep_sep' Finset.univ (fun c : Dev nD => bigSep Finset.univ fun k : Fin 3 => atPos ER (kcell (c, k)) 0 ∅ 0)]

theorem ghost_of (K : GSem nD τ sig → ℕ) (c : Dev nD) : iprop(shared m K ∗ mine c) ⊢ G' m c := by
  unfold shared mine G' ghost invs
  rw [three]
  iintro ⟨⟨#HI, #HR⟩, Hl, ⟨HaB, HaS, HaV⟩, HtB, HtV, HtS⟩
  isplitr [Hl]; swap; · iexact Hl
  iexists K
  isplitr
  · isplitr; · iapply (inv_of m K c 0); iexact HI
    isplitr; · iapply (inv_of m K c 1); iexact HI
    isplitr; · iapply (inv_of m K c 2); iexact HI
    isplitr; · iapply (inv_of m K (peer c) 0); iexact HI
    iapply (inv_of m K (peer c) 2); iexact HI
  isplitl [HaB HaS HaV]
  · isplitl [HaB]; · iexact HaB
    isplitl [HaS]; · iexact HaS
    iexact HaV
  isplitr
  · isplitr; · iapply (reached_of (F := F) (peer c) 0); iexact HR
    isplitr; · iapply (reached_of (F := F) c 2); iexact HR
    iapply (reached_of (F := F) c 1); iexact HR
  isplitl [HtB]; · iexact HtB
  isplitl [HtV]; · iexact HtV
  iexact HtS

omit [FloatOps F] in
/-- A pair swaps its barrier and receive tokens; the send token stays. -/
theorem deal : (bigSep Finset.univ fun c : Dev nD => bigSep Finset.univ fun k : Fin 3 => (dutyTok ER (kcell (c, k)) 0 () : sProp 𝕄))
    ⊢ bigSep Finset.univ fun c : Dev nD => iprop(dutyTok ER (barCell (peer c)) 0 () ∗ dutyTok ER (recvCell (peer c)) 0 () ∗ dutyTok ER (sendCell c) 0 ()) := by
  rw [bigSep_congr (s := Finset.univ) (fun (c : Dev nD) _ => three fun k : Fin 3 => (dutyTok ER (kcell (c, k)) 0 () : sProp 𝕄)),
    bigSep_sep', bigSep_sep', bigSep_sep', bigSep_sep',
    bigSep_univ_equiv swap (fun c : Dev nD => (dutyTok ER (kcell (c, 0)) 0 () : sProp 𝕄)),
    bigSep_univ_equiv swap (fun c : Dev nD => (dutyTok ER (kcell (c, 2)) 0 () : sProp 𝕄))]
  iintro ⟨HB, HS, HV⟩
  isplitl [HB]; · iexact HB
  isplitl [HV]; · iexact HV
  iexact HS

omit [FloatOps F] in
/-- A persistent fact goes to every member of a family. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans
    ((Entails.of_eq (bigSep_sep' Finset.univ (fun _ => R) Φ).symm).trans (bigSep_mono fun c _ => h c))

theorem sorted_with (c : Dev nD) :
    iprop(Pipeline.ownSems0 (Ix := Unit) (Name := ℕ) (U := UU) (Lvl := ℕ) (Val := Elt F) (τ := τ) osem c ∗ unscopedSems0 c ∗ G m c)
      ⊢ iprop((locals0 c ∗ bigSep Finset.univ fun k : Fin 3 => semVal (kcell (c, k)) 0) ∗ G m c) := by
  iintro ⟨Ho, Hu, HG⟩
  isplitl [Ho Hu]
  · iapply (sems_sorted (F := F) c)
    isplitl [Ho]; · iexact Ho
    iexact Hu
  iexact HG

/-- The invariants are allocated and the tokens dealt. -/
theorem glob_sorted : (bigSep Finset.univ fun c => iprop((locals0 c ∗ bigSep Finset.univ fun k : Fin 3 => semVal (kcell (c, k)) 0) ∗ G m c) : sProp 𝕄)
    ⊢ |={Set.univ}=> bigSep Finset.univ (G' m) := by
  unfold G
  simp only [bigSep_sep']
  iintro ⟨⟨Hl, Hv⟩, Hst, Hat, Hr, Htok⟩
  ihave Hv' := (Entails.of_eq (over_cells (F := F) fun g => semVal g 0).symm) $$ Hv
  ihave Hst' := (Entails.of_eq (over_cells (F := F) fun g => roundState ER (exch m) g 0).symm) $$ Hst
  ihave #Hr' := (Entails.of_eq (over_cells (F := F) fun g => reached ER g 0).symm) $$ Hr
  ihave Htok' := (deal (F := F)) $$ Htok
  imod (alloc_all m) $$ [Hv' Hst'] with ⟨%K, #Hinv⟩
  · isplitl [Hv']; · iexact Hv'
    iexact Hst'
  imodintro
  iapply (share_out (R := shared m K) (Φ := mine) fun c => ghost_of m K c)
  isplitr
  · unfold shared; isplitr; · iexact Hinv
    iexact Hr'
  iapply (mine_all (F := F))
  isplitl [Hl]; · iexact Hl
  isplitl [Hat]; · iexact Hat
  iexact Htok'

/-- From every device's semaphores and launch ghost state to every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  (bigSep_mono fun c _ => sorted_with m c).trans (glob_sorted m)

/-! ## The launch credit -/

theorem cell_eq {a b : Dev nD} {sm : SemLoc sig} (h : (((a : Thread nD τ), sm) : GSem nD τ sig) = ((b : Thread nD τ), sm)) : a = b :=
  congrArg (fun g : GSem nD τ sig => g.1.1) h

theorem owed_bar (d c : Dev nD) : owed₀ d (barCell c) () = if d = peer c then 1 else 0 := by
  unfold owed₀ owed₁
  rw [Pi.add_apply, Finsupp.add_apply, tallyAt_ne_cell (fun h => bar_ne_dma _ (congrArg Prod.snd h)), Finsupp.zero_apply, Nat.zero_add, tallyAt_apply]
  by_cases h : d = peer c
  · rw [if_pos h, h, peer_peer, if_pos ⟨rfl, rfl⟩]
  · rw [if_neg h, if_neg fun h' => h (by rw [← peer_peer d]; exact congrArg peer (cell_eq h'.1).symm)]
theorem owed_recv (d c : Dev nD) : owed₀ d (recvCell c) () = if d = peer c then N else 0 := by
  unfold owed₀ owed₁
  rw [Pi.add_apply, Finsupp.add_apply, tallyAt_apply, tallyAt_ne_cell (fun h => dma_ne_bar _ (congrArg Prod.snd h)), Finsupp.zero_apply, Nat.add_zero]
  by_cases h : d = peer c
  · rw [if_pos h, h, peer_peer, if_pos ⟨rfl, rfl⟩]
  · rw [if_neg h, if_neg fun h' => h (by rw [← peer_peer d]; exact congrArg peer (cell_eq h'.1).symm)]

theorem credit_bar (c : Dev nD) :
    tallyOn (barCell c) (launchCredit (Pipeline.owing owed₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]
theorem credit_recv (c : Dev nD) :
    tallyOn (recvCell c) (launchCredit (Pipeline.owing owed₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred owed₀ c : sProp 𝕄) ⊢ iprop(cred (tallyAt (barCell c) () 1) ∗ cred (tallyAt (recvCell c) () N)) := by
  unfold Pipeline.launchCred
  rw [bigSep_univ_at _ (SemLoc.reg barS), credit_bar]
  refine sep_mono_right ?_
  rw [← credit_recv]
  exact bigSep_elim (Finset.mem_erase.mpr ⟨dma_ne_bar _, Finset.mem_univ _⟩)

/-! ## The region's proof data -/

/-- What a device's region starts from: its ghost state, its credits, the levels, and the arrays the body touches. -/
def start (c : Dev nD) : sProp 𝕄 :=
  iprop((∃ K, ghost m K c) ∗ locals0 c ∗ (cred (tallyAt (barCell c) () 1) ∗ cred (tallyAt (recvCell c) () N)) ∗ levAts lvSet lv
    ∗ holds c main_arg0 (xOf m c) ∗ holds c main_arg1 (yOf m c) ∗ some_ c main_v1)
def Φ₀ (c : Dev nD) : sProp 𝕄 :=
  iprop(start m c ∗ some_ c cc0_scratch0 ∗ some_ c cc0_scratch1 ∗ some_ c cc0_scratch2 ∗ some_ c cc0_scratch3 ∗ some_ c cc0_scratch4)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => left m c
  q _ := fullShare
  owed t := match t with
    | ⟨0, _⟩ => owed₀ c
    | ⟨_ + 1, _⟩ => 0

theorem no_windows (Φ : Fin cfg0.W → sProp 𝕄) : bigSep Finset.univ Φ = (iprop(emp) : sProp 𝕄) := by
  have h : (Finset.univ : Finset (Fin cfg0.W)) = ∅ := Finset.eq_empty_of_forall_notMem fun w _ => w.elim0
  rw [h, bigSep_empty]; rfl

set_option maxRecDepth 4000 in
/-- The body's obligation at the region's one point. -/
theorem body_obligation (c : Dev nD) : BodyObligation (dats (F := F) m 0 c) (defs₀ (F := F)) 𝒱₀ () Set.univ := fun t => by
  rw [fin_N0 t, no_windows, no_windows]
  show iprop(Φ₀ m c ∗ (dats m 0 c).owesAt () t0_0.castSucc ∗ emp) ⊢ wp frame (wpE (defs₀ (F := F)) 𝒱₀ c none) Set.univ
    (cc0_body (Memref.whole main_arg0) (Memref.isWhole_whole _) (Memref.whole main_arg1) (Memref.isWhole_whole _)
            (Memref.whole main_v1) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8) (fun _ => iprop(left m c ∗ (dats m 0 c).owesAt () t0_0.succ ∗ emp))
  unfold Φ₀ start Dat.owesAt Pipeline.owesWithin
  rw [show (dats m 0 c).owed t0_0.castSucc = owed₀ c from rfl, show (dats m 0 c).owed t0_0.succ = 0 from rfl]
  iintro ⟨⟨⟨⟨%K, Hg⟩, Hl, ⟨HcB, HcV⟩, Hlev, Hx, Hy, Ho⟩, H0, H1, H2, H3, H4⟩, ⟨%W, -, HO⟩, -⟩
  iapply (wp_wand frame (wpE (defs₀ (F := F)) 𝒱₀ c none) Set.univ (Q := fun _ => done m c)) $$ [Hg Hl HcB HcV Hlev Hx Hy Ho H0 H1 H2 H3 H4 HO]
  · iapply (body_run m K c W)
    isplitl [Hg]; · iexact Hg
    isplitl [HcB]; · iexact HcB
    isplitl [HcV]; · iexact HcV
    isplitl [Hlev]; · iexact Hlev
    isplitl [Hl]; · iexact Hl
    isplitl [HO]; · iexact HO
    isplitl [Hx]; · iexact Hx
    isplitl [Hy]; · iexact Hy
    isplitl [Ho]; · iexact Ho
    isplitl [H0]; · iexact H0
    isplitl [H1]; · iexact H1
    isplitl [H2]; · iexact H2
    isplitl [H3]; · iexact H3
    iexact H4
  iintro %_ Hd
  unfold done
  icases Hd with ⟨⟨%W', HO⟩, Hleft⟩
  isplitl [Hleft]; · iexact Hleft
  isplitl [HO]
  · iexists W'
    isplitr; · ipureintro; exact fun _ _ => Or.inl trivial
    iexact HO
  iempintro

theorem share_eq (c : Dev nD) (w : Fin cfg0.W) : (dats m 0 c).share w = fullShare := w.elim0

theorem start_of (c : Dev nD) :
    iprop(Pipeline.unscopedRestP Pipeline.Prefetch.none cfg0.spec c (fun b => m ((c : Thread nD τ).loc b)) ∗ levAts lvSet lv
        ∗ Pipeline.launchCred owed₀ c ∗ prngReg c (ρ c) ∗ G' m c)
      ⊢ |={Set.univ}=> iprop(start m c ∗ (((c : Thread nD τ).loc main_arg2) ↦{fullShare} m ((c : Thread nD τ).loc main_arg2))) := by
  rw [Pipeline.unscopedRestP_none, unscopedRest0_eq]
  unfold G' start
  iintro ⟨⟨Hx, Hy, Hz, Ho⟩, Hlev, Hcr, -, HG, Hl⟩
  ihave Hc := (creds (F := F) c) $$ Hcr
  imodintro
  isplitr [Hz]; swap; · iexact Hz
  isplitl [HG]; · iexact HG
  isplitl [Hl]; · iexact Hl
  isplitl [Hc]; · iexact Hc
  isplitl [Hlev]; · iexact Hlev
  isplitl [Hx]; · iexact Hx
  isplitl [Hy]; · iexact Hy
  iexists _; iexact Ho

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

/-- What the region gives back beside its own semaphores and scratch: the barrier counter and the three arrays. -/
def out (c : Dev nD) : sProp 𝕄 :=
  iprop(unscopedSems0 c ∗ holds c main_arg0 (xOf m c) ∗ holds c main_arg1 (yOf m c) ∗ holds c main_v1 (outOf m c))

theorem leave (c : Dev nD) :
    (dats m 0 c).Φ (Fin.last cfg0.N) ⊢ iprop(out m c ∗ Pipeline.ownSems0 osem c ∗ Pipeline.scopedRest cfg0.spec c) := by
  rw [show (dats m 0 c).Φ (Fin.last cfg0.N) = left m c from rfl, scopedRest0_eq, own_sems]
  unfold left out locals0
  rw [unscoped_sems]
  iintro ⟨⟨H0, H1, H2, H3, H4⟩, ⟨HS, HV, HB⟩, Harr, Hr⟩
  isplitl [HB Harr]
  · isplitl [HB]; · iexact HB
    iexact Harr
  isplitl [H0 H1 H2 H3 H4 HS HV]
  · isplitl [H0]; · iexact H0
    isplitl [H1]; · iexact H1
    isplitl [H2]; · iexact H2
    isplitl [H3]; · iexact H3
    isplitl [H4]; · iexact H4
    isplitl [HS]; · iexact HS
    iexact HV
  iexact Hr

/-! ## The run -/

/-- Device `c`'s arrays in a final state. -/
def Final (c : Dev nD) (mem : (ℓ : Loc nD τ sig) → Buf (Elt F) ℓ) : Prop :=
  mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_v1) = outOf m c

theorem read_out (c : Dev nD) (s' : Phys nD τ sig (Elt F)) :
    iprop(out m c ∗ (((c : Thread nD τ).loc main_arg2) ↦{fullShare} m ((c : Thread nD τ).loc main_arg2)) ∗ SI s')
      ⊢ |={Set.univ}=> iprop(⌜(∀ sm : SemLoc sig, sm.isScoped .tc = false → s'.mem.sem ((c.tc : Thread nD τ), sm) = 0) ∧ Final m c s'.mem.mem⌝ ∗ SI s') := by
  unfold out holds
  iintro ⟨⟨Hu, Hx, Hy, Ho⟩, Hz, HSI⟩
  icombine HSI Hx gives %hx
  icombine HSI Hy gives %hy
  icombine HSI Hz gives %hz
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ hy, Buf.eq_of_forall_mem_univ hz, Buf.eq_of_forall_mem_univ ho⟩
  iexact HSI

set_option maxRecDepth 8000 in
/-- On the eight devices, for any float values, from any memory with zero counters: every weakly fair execution ends, with every device's
    result the sum of its and its peer's partial sums, the arguments unchanged and every counter at zero. -/
theorem run_main : θ_run defs (onTc (τ := τ) (main (F := F))) (s₀ m ρ) (fun r => (∀ c : Dev nD, Final m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := owed₀) (howed₀ := fun _ => rfl) (howedN := fun _ => rfl)
    (L := lvSet) (lv := lv) (hL := lvSet_off) (hwaits := fun c => Pipeline.cellsWaits_intro cfgs (dats m) () 0 c fun w => w.elim0)
    (G := G m) (G' := G' m) (u₀ := u₀)
    (hu₀ := by
      unfold u₀
      iintro Hu
      ihave H := (launch_split _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := out m) (Z := fun c => ((c : Thread nD τ).loc main_arg2) ↦{fullShare} m ((c : Thread nD τ).loc main_arg2))
    (hX := start_of m ρ) (hin := enter m) (hout := leave m)
    (QY := fun c s => (∀ sm : SemLoc sig, sm.isScoped .tc = false → s.sem ((c.tc : Thread nD τ), sm) = 0) ∧ Final m c s.mem)
    (hY := read_out m)
    (hQ := fun _ h hs => ⟨fun c => (h c).2.2.2, sem_eq_zero hs fun c => (h c).2.2.1⟩)

end Cert.NormGrad

end
-- ==== Proof.Values.lean ====
/-
# What the kernel's payloads are at an index, over the extended reals

A row of the block of `x` is normalised by its mean and mean square; the partial rows are sums over the block's rows.
-/
module

public import proofs.«01_k».proof.Proof.Protocol
public import Idealize.ShloMosaic.Lib.Pointwise
public import Idealize.ShloMosaic.PureOps.Ideal.Laws

@[expose] public section

noncomputable section

namespace Cert.NormGrad

open Cert.KernelIdeal Cert.KernelIdeal.Gen
open Idealize.ShloMosaic
open Idealize.ShloMosaic.TcCoe

/-- The kernel's factor `1 / 512` and its `1e-5`, as it spells them. -/
abbrev invLen : EReal := Ideal.ofBits .f32 0x3B000000#32
abbrev tiny : EReal := Ideal.ofBits .f32 0x3727C5AC#32

/-- The kernel's mean of a row, its reciprocal deviation, and the normalised entry. -/
def rowMean (x : Fin 512 → EReal) : EReal := (∑ k, x k) * invLen
def rowScale (x : Fin 512 → EReal) : EReal :=
  Ideal.rsqrt ((∑ k, x k * x k) * invLen - rowMean x * rowMean x + tiny)
def kernelHat (x : Fin 512 → EReal) (l : Fin 512) : EReal := x l * rowScale x - rowMean x * rowScale x

/-- Row `r` of a block's first and second half. -/
abbrev top (r : Fin 256) : Fin 512 := ⟨r.val, lt_of_lt_of_le r.isLt (by decide)⟩
abbrev bot (r : Fin 256) : Fin 512 := ⟨256 + r.val, Nat.add_lt_add_left r.isLt 256⟩

theorem upper_apply (X : S512x512.Idx → EReal) (r : Fin 256) (k : Fin 512) : upper (F := Ideal) X (ix2 r k) = X (ix2 (top r) k) :=
  congrArg X (ix2_eq_valueIdx _ _).symm
theorem lower_apply (X : S512x512.Idx → EReal) (r : Fin 256) (k : Fin 512) : lower (F := Ideal) X (ix2 r k) = X (ix2 (bot r) k) :=
  congrArg X (ix2_eq_valueIdx _ _).symm

/-- A row's contribution to column `l` of `dgamma`. -/
def gammaTerm (X Y : S512x512.Idx → EReal) (l : Fin 512) (r : Fin 512) : EReal :=
  Y (ix2 r l) * kernelHat (fun k => X (ix2 r k)) l

set_option maxRecDepth 16384 in
theorem gammaRow_apply (X Y : S512x512.Idx → EReal) (l : Fin 512) :
    (gammaRow (F := Ideal) X Y : S1x512.Idx → EReal) (ix2 (0 : Fin 1) l)
      = (∑ r : Fin 256, gammaTerm X Y l (top r)) + ∑ r : Fin 256, gammaTerm X Y l (bot r) := by
  pointwise [gammaRow, k0_pay11, k0_pay6, k0_pay2, k0_pay4, k0_pay5, k0_pay8, k0_pay9, k0_pay10]
  simp only [upper_apply, lower_apply]
  rfl

set_option maxRecDepth 16384 in
theorem betaRow_apply (Y : S512x512.Idx → EReal) (l : Fin 512) :
    (betaRow (F := Ideal) Y : S1x512.Idx → EReal) (ix2 (0 : Fin 1) l)
      = (∑ r : Fin 256, Y (ix2 (top r) l)) + ∑ r : Fin 256, Y (ix2 (bot r) l) := by
  pointwise [betaRow, k0_pay12, k0_pay7, k0_pay3]
  simp only [upper_apply, lower_apply]

/-- A sum over 512 rows is the sum of its halves, and over 1024 rows the sum of the two blocks'. -/
theorem sum_halves (f : Fin 512 → EReal) : (∑ r : Fin 256, f (top r)) + ∑ r : Fin 256, f (bot r) = ∑ r, f r :=
  (Fin.sum_univ_add (a := 256) (b := 256) f).symm

/-- Row `r` of block `b` in the whole array. -/
abbrev row (b : Fin 2) (r : Fin 512) : Fin 1024 := ⟨b.val * 512 + r.val, by omega⟩

theorem sum_blocks (f : Fin 1024 → EReal) : (∑ r : Fin 512, f (row 0 r)) + ∑ r : Fin 512, f (row 1 r) = ∑ r, f r :=
  ((Fin.sum_univ_add (a := 512) (b := 512) f).trans
    (congrArg₂ (· + ·) (Finset.sum_congr rfl fun r _ => congrArg f (Fin.ext (by simp)))
      (Finset.sum_congr rfl fun r _ => congrArg f (Fin.ext rfl)))).symm

/-- The two rows of a device's partial sums. -/
theorem part_gamma (X Y : S512x512.Idx → EReal) (l : Fin 512) :
    (part (F := Ideal) X Y : S2x512.Idx → EReal) (ix2 (0 : Fin 2) l) = ∑ r, gammaTerm X Y l r :=
  (if_pos rfl).trans ((gammaRow_apply X Y l).trans (sum_halves _))
theorem part_beta (X Y : S512x512.Idx → EReal) (l : Fin 512) :
    (part (F := Ideal) X Y : S2x512.Idx → EReal) (ix2 (1 : Fin 2) l) = ∑ r, Y (ix2 r l) :=
  (if_neg Nat.one_ne_zero).trans ((betaRow_apply Y l).trans (sum_halves fun r => Y (ix2 r l)))

variable (m : (ℓ : Loc nD τ sig) → Buf (Elt Ideal) ℓ)

theorem outOf_apply (c : Dev nD) (j : S2x512.Idx) :
    (outOf m c : S2x512.Idx → EReal) j = (partOf m c : S2x512.Idx → EReal) j + (partOf m (peer c) : S2x512.Idx → EReal) j := by
  pointwise [outOf, k0_pay1]

end Cert.NormGrad

end
-- ==== Proof.Reference.lean ====
/-
# What the reference computes at an index, over the extended reals
-/
module

public import proofs.«01_k».proof.Proof.Gen.ReferenceIdeal.Run
public import Idealize.ShloMosaic.Lib.Pointwise
public import Idealize.ShloMosaic.PureOps.Ideal.Laws

@[expose] public section

noncomputable section

namespace Cert.NormGrad.Ref

open Cert.ReferenceIdeal Cert.ReferenceIdeal.Gen
open Idealize.ShloMosaic
open Idealize.ShloMosaic.TcCoe

variable (A B : S1024x512.Idx → EReal)

/-- The reference's row means, as a column. -/
def meanCol : FVec Ideal S1024x1 .f32 :=
  Host.divf (broadcastInDim S1024x1 ![0] bcast_S1024_S1024x1_0 (Host.reduceAdd (A : FVec Ideal S1024x512 .f32) (constant S_ .f32 0x00000000#32) reducesTo_S1024x512_S1024_d1 h_S_))
    (broadcastInDim S1024x1 ![] bcast_S_S1024x1 (constant S_ .f32 0x44000000#32))
/-- The block less its row means. -/
def centred : FVec Ideal S1024x512 .f32 := subf (A : FVec Ideal S1024x512 .f32) (broadcastInDim S1024x512 ![0, 1] bcast_S1024x1_S1024x512_0_1 (meanCol A))
/-- The number of entries the variance divides by. -/
def count : FVec Ideal S_ .f32 := subf (constant S_ .f32 0x44000000#32) (sitofp .f32 (constantI S_ 32 0#32))
/-- The reference's row variances, as a column. -/
def varCol : FVec Ideal S1024x1 .f32 :=
  select (broadcastInDim S1024x1 ![] bcast_S_S1024x1 (cmpf .ogt count (constant S_ .f32 0x00000000#32)))
    (Host.divf (broadcastInDim S1024x1 ![0] bcast_S1024_S1024x1_0 (Host.reduceAdd (mulf (centred A) (centred A)) (constant S_ .f32 0x00000000#32) reducesTo_S1024x512_S1024_d1 h_S_))
      (broadcastInDim S1024x1 ![] bcast_S_S1024x1 count))
    (broadcastInDim S1024x1 ![] bcast_S_S1024x1 (id (constant S_ .f32 0x7FC00000#32)))
/-- The normalised array. -/
def hat : FVec Ideal S1024x512 .f32 :=
  mulf (centred A) (broadcastInDim S1024x512 ![0, 1] bcast_S1024x1_S1024x512_0_1
    (Host.divf (broadcastInDim S1024x1 ![] bcast_S_S1024x1 (constant S_ .f32 0x3F800000#32))
      (Host.sqrt (addf (varCol A) (broadcastInDim S1024x1 ![] bcast_S_S1024x1 (constant S_ .f32 0x3727C5AC#32))))))
/-- The reference's result: `dgamma` above `dbeta`. -/
def result : FVec Ideal S2x512 .f32 :=
  concatenate S2x512 0 [⟨S1x512, broadcastInDim S1x512 ![1] bcast_S512_S1x512_1 (Host.reduceAdd (mulf (B : FVec Ideal S1024x512 .f32) (hat A)) (constant S_ .f32 0x00000000#32) reducesTo_S1024x512_S512_d0 h_S_)⟩,
    ⟨S1x512, broadcastInDim S1x512 ![1] bcast_S512_S1x512_1 (Host.reduceAdd (B : FVec Ideal S1024x512 .f32) (constant S_ .f32 0x00000000#32) reducesTo_S1024x512_S512_d0 h_S_)⟩] concatenates_S1x512_S1x512_S2x512_d0

theorem meanCol_apply (r : Fin 1024) : meanCol A (ix2 r (0 : Fin 1)) = Ideal.div (∑ k, A (ix2 r k)) (Ideal.ofBits .f32 0x44000000#32) := by
  pointwise [meanCol]
theorem centred_apply (r : Fin 1024) (l : Fin 512) : centred A (ix2 r l) = A (ix2 r l) - meanCol A (ix2 r (0 : Fin 1)) := by
  pointwise [centred]
theorem varCol_apply (r : Fin 1024) : varCol A (ix2 r (0 : Fin 1)) =
    if (0 : EReal) < Ideal.ofBits .f32 0x44000000#32 - FloatOps.sitofp (F := Ideal) .f32 (0#32 : BitVec 32) then
      Ideal.div (∑ k, centred A (ix2 r k) * centred A (ix2 r k)) (Ideal.ofBits .f32 0x44000000#32 - FloatOps.sitofp (F := Ideal) .f32 (0#32 : BitVec 32))
    else Ideal.ofBits .f32 0x7FC00000#32 := by
  pointwise [varCol, count]
  rfl
theorem hat_apply (r : Fin 1024) (l : Fin 512) : hat A (ix2 r l) = centred A (ix2 r l)
    * Ideal.div 1 (Ideal.sqrt (varCol A (ix2 r (0 : Fin 1)) + Ideal.ofBits .f32 0x3727C5AC#32)) := by
  pointwise [hat]
theorem result_gamma (l : Fin 512) : result A B (ix2 (0 : Fin 2) l) = ∑ r, B (ix2 r l) * hat A (ix2 r l) := by
  pointwise [result]
theorem result_beta (l : Fin 512) : result A B (ix2 (1 : Fin 2) l) = ∑ r, B (ix2 r l) := by
  pointwise [result]

end Cert.NormGrad.Ref

end
-- ==== Proof.Arith.lean ====
/-
# The row identity, over the reals

For a row of real numbers the mean square less the squared mean is the mean squared deviation, so the kernel's
`x * rsqrt v - mean * rsqrt v` is the reference's `(x - mean) * (1 / sqrt v)`.
-/
module

public import proofs.«01_k».proof.Proof.Values
public import proofs.«01_k».proof.Proof.Reference

@[expose] public section

noncomputable section

namespace Cert.NormGrad

open Idealize.ShloMosaic

/-! ## The constants -/

theorem ofBits_len : Ideal.ofBits .f32 0x44000000#32 = ((512 : ℝ) : EReal) := by
  simp [Ideal.ofBits, Ideal.ieee, -EReal.coe_mul]; norm_num
theorem ofBits_invLen : Ideal.ofBits .f32 0x3B000000#32 = ((1 / 512 : ℝ) : EReal) := by
  simp [Ideal.ofBits, Ideal.ieee, -EReal.coe_mul]; norm_num
theorem ofBits_tiny : ∃ t : ℝ, 0 < t ∧ Ideal.ofBits .f32 0x3727C5AC#32 = ((t : ℝ) : EReal) := by
  refine ⟨10995116 / 2 ^ 40, by norm_num, ?_⟩
  simp [Ideal.ofBits, Ideal.ieee, -EReal.coe_mul]; norm_num
theorem ofBits_inf : Ideal.ofBits .f32 0x7F800000#32 = ⊤ := by
  simp [Ideal.ofBits, Ideal.ieee]

theorem coe_sum {n : ℕ} (f : Fin n → ℝ) : (∑ k, ((f k : ℝ) : EReal)) = ((∑ k, f k : ℝ) : EReal) :=
  (map_sum (⟨⟨fun r : ℝ => (r : EReal), EReal.coe_zero⟩, EReal.coe_add⟩ : ℝ →+ EReal) f Finset.univ).symm

/-! ## The identity -/

/-- The mean square less the squared mean is the mean squared deviation. -/
theorem variance (x : Fin 512 → ℝ) : (∑ k, x k * x k) * (1 / 512) - (∑ k, x k) * (1 / 512) * ((∑ k, x k) * (1 / 512))
    = (∑ k, (x k - (∑ i, x i) * (1 / 512)) * (x k - (∑ i, x i) * (1 / 512))) * (1 / 512) := by
  generalize hs : (∑ i, x i) * (1 / 512) = a
  have hS : ∑ i, x i = 512 * a := by rw [← hs]; ring
  have h : ∑ k, (x k - a) * (x k - a) = (∑ k, x k * x k) - 2 * a * (∑ k, x k) + 512 * (a * a) := by
    have : ∀ k, (x k - a) * (x k - a) = x k * x k - 2 * a * x k + a * a := fun k => by ring
    rw [Finset.sum_congr rfl fun k _ => this k, Finset.sum_add_distrib, Finset.sum_sub_distrib, ← Finset.mul_sum, Finset.sum_const,
      Finset.card_univ, Fintype.card_fin, nsmul_eq_mul]
    norm_num
  rw [h, hS]; ring

theorem variance_nonneg (x : Fin 512 → ℝ) (a : ℝ) : 0 ≤ (∑ k, (x k - a) * (x k - a)) * (1 / 512) :=
  mul_nonneg (Finset.sum_nonneg fun k _ => mul_self_nonneg _) (by norm_num)

/-- The reference's mean, variance and normalised entry of a row. -/
def refMean (x : Fin 512 → EReal) : EReal := Ideal.div (∑ k, x k) (Ideal.ofBits .f32 0x44000000#32)
def refVar (x : Fin 512 → EReal) : EReal := Ideal.div (∑ k, (x k - refMean x) * (x k - refMean x)) (Ideal.ofBits .f32 0x44000000#32)
def refHat (x : Fin 512 → EReal) (l : Fin 512) : EReal :=
  (x l - refMean x) * Ideal.div 1 (Ideal.sqrt (refVar x + Ideal.ofBits .f32 0x3727C5AC#32))

/-- On a row of real numbers the kernel's normalised entry is the reference's. -/
theorem hat_eq (x : Fin 512 → ℝ) (l : Fin 512) :
    kernelHat (fun k => (x k : EReal)) l = refHat (fun k => (x k : EReal)) l := by
  obtain ⟨t, ht, hte⟩ := ofBits_tiny
  have hm : rowMean (fun k => (x k : EReal)) = (((∑ k, x k) * (1 / 512) : ℝ) : EReal) := by
    unfold rowMean invLen; rw [coe_sum, ofBits_invLen, ← EReal.coe_mul]
  have hm' : refMean (fun k => (x k : EReal)) = (((∑ k, x k) * (1 / 512) : ℝ) : EReal) := by
    unfold refMean; rw [coe_sum, ofBits_len, Ideal.div_coe (by norm_num), ← EReal.coe_mul]
  have hv := variance x
  have hn := variance_nonneg x ((∑ k, x k) * (1 / 512))
  have hs : rowScale (fun k => (x k : EReal)) = (((Real.sqrt ((∑ k, (x k - (∑ i, x i) * (1 / 512)) * (x k - (∑ i, x i) * (1 / 512))) * (1 / 512) + t))⁻¹ : ℝ) : EReal) := by
    unfold rowScale invLen tiny
    simp only [hm, ← EReal.coe_mul, coe_sum, ofBits_invLen, hte, ← EReal.coe_sub, ← EReal.coe_add]
    rw [hv, Ideal.rsqrt_coe, if_neg (by linarith), if_neg (by linarith)]
  have hs' : refVar (fun k => (x k : EReal)) = (((∑ k, (x k - (∑ i, x i) * (1 / 512)) * (x k - (∑ i, x i) * (1 / 512))) * (1 / 512) : ℝ) : EReal) := by
    unfold refVar
    simp only [hm', ← EReal.coe_mul, coe_sum, ofBits_len, ← EReal.coe_sub]
    rw [Ideal.div_coe (by norm_num), ← EReal.coe_mul]
  unfold kernelHat refHat
  rw [hm, hs, hm', hs', hte, ← EReal.coe_add, Ideal.sqrt_coe, if_neg (by linarith),
    Ideal.div_coe (ne_of_gt (Real.sqrt_pos.mpr (by linarith))), one_mul, ← EReal.coe_mul, ← EReal.coe_mul, ← EReal.coe_sub, ← EReal.coe_sub,
    ← EReal.coe_mul]
  exact congrArg _ (by ring)

/-! ## The reference's rows -/

namespace Ref

open Cert.ReferenceIdeal Cert.ReferenceIdeal.Gen

variable (A B : S1024x512.Idx → EReal)

theorem varCol_eq (r : Fin 1024) : varCol A (ix2 r (0 : Fin 1)) = refVar (fun k => A (ix2 r k)) := by
  rw [varCol_apply]
  have hc : (FloatOps.sitofp (F := Ideal) FTy.f32 0#32 : EReal) = 0 := by
    show (((0#32 : BitVec 32).toInt : ℝ) : EReal) = 0
    simp
  rw [hc, sub_zero, if_pos (by rw [ofBits_len]; exact_mod_cast (by norm_num : (0 : ℝ) < 512))]
  simp only [centred_apply, meanCol_apply]
  rfl

theorem hat_row (r : Fin 1024) (l : Fin 512) : hat A (ix2 r l) = refHat (fun k => A (ix2 r k)) l := by
  rw [hat_apply, varCol_eq, centred_apply, meanCol_apply]; rfl

end Ref

end Cert.NormGrad

end
-- ==== Proof.Blocks.lean ====
/-
# The devices' sums are the reference's

The two devices of a pair hold the two blocks of rows, so the sum of their partial rows runs over every row of the whole array.
-/
module

public import proofs.«01_k».proof.Proof.Arith
public import proofs.«01_k».proof.Pre_x_finite_KernelIdeal
public import Idealize.ShloMosaic.Lib.Layout
public import Idealize.ShloMosaic.Lib.ReduceAll

@[expose] public section

noncomputable section

namespace Cert.NormGrad

open Cert.KernelIdeal Cert.KernelIdeal.Gen
open Idealize.ShloMosaic
open Idealize.ShloMosaic.TcCoe

/-! ## Blocks -/

/-- Which block of rows device `c` holds: its `y` coordinate. -/
def blockIx (c : Dev nD) : Fin 2 := ⟨c.val / 2 % 2, Nat.mod_lt _ (by decide)⟩

theorem blockIx_cases (c : Dev nD) : (blockIx c = 0 ∧ blockIx (peer c) = 1) ∨ (blockIx c = 1 ∧ blockIx (peer c) = 0) := by revert c; decide

/-- Device `c`'s block of a whole array, entry by entry. -/
theorem block_apply (c : Dev nD) (A : (⟨2, ![1024, 512]⟩ : Shape).Idx → EReal) (r k : Fin 512) :
    (Layout.blockN ⟨2, ![512, 512]⟩ ⟨2, ![1024, 512]⟩ (Layout.meshBlock [2, 2, 2] ![[1], []] c) A) (ix2 r k) = A (ix2 (row (blockIx c) r) k) := by
  refine congrArg A (funext fun a => ?_)
  match a with
  | ⟨0, _⟩ => exact Fin.ext (by show (c.val / 2 % 2 * 1 + 0) * 512 + r.val = c.val / 2 % 2 * 512 + r.val; omega)
  | ⟨1, _⟩ => exact Fin.ext (by show 0 * 512 + k.val = k.val; omega)

/-! ## Finite entries -/

/-- The precondition, entry by entry: no entry of `x` is infinite. -/
theorem finite_of [Cert.Pre_x_finite_KernelIdeal.Facts] (X Y : S512x512.Idx → EReal) (Z : S512.Idx → EReal)
    (h : Cert.Pre_x_finite_KernelIdeal.fn (F := Ideal) X Y Z = fun _ => 1#1) (i : S512x512.Idx) : ∃ a : ℝ, X i = (a : EReal) := by
  haveI : Subsingleton Cert.Pre_x_finite_KernelIdeal.S_.Idx := ⟨fun a b => funext fun d => d.elim0⟩
  have e := Host.reduce_andi_all _ _ _ _ (fun d => d.elim0) (congrFun h fun d => d.elim0) i
  have e' : Ideal.cmp .olt (max (X i) (-(X i))) (Ideal.ofBits .f32 0x7F800000#32) = 1#1 := e
  rw [ofBits_inf] at e'
  generalize X i = x at e'
  induction x using EReal.rec with
  | bot => simp [Ideal.cmp] at e'
  | coe a => exact ⟨a, rfl⟩
  | top => simp [Ideal.cmp] at e'

/-! ## The result -/

variable (m : (ℓ : Loc nD τ sig) → Buf (Elt Ideal) ℓ) (A B : (⟨2, ![1024, 512]⟩ : Shape).Idx → EReal)

/-- What row `r` of the whole arrays adds to column `l` of `dgamma`. -/
def refTerm (l : Fin 512) (r : Fin 1024) : EReal := B (ix2 r l) * refHat (fun k => A (ix2 r k)) l

section
variable (hA : ∀ c, xOf m c = Layout.blockN ⟨2, ![512, 512]⟩ ⟨2, ![1024, 512]⟩ (Layout.meshBlock [2, 2, 2] ![[1], []] c) A)
  (hB : ∀ c, yOf m c = Layout.blockN ⟨2, ![512, 512]⟩ ⟨2, ![1024, 512]⟩ (Layout.meshBlock [2, 2, 2] ![[1], []] c) B)
  (hfin : ∀ c i, ∃ a : ℝ, (xOf m c : S512x512.Idx → EReal) i = (a : EReal))
include hA hB hfin

theorem part_gamma_of (c : Dev nD) (l : Fin 512) :
    (partOf m c : S2x512.Idx → EReal) (ix2 (0 : Fin 2) l) = ∑ r : Fin 512, refTerm A B l (row (blockIx c) r) := by
  unfold partOf
  rw [part_gamma]
  refine Finset.sum_congr rfl fun r _ => ?_
  unfold gammaTerm refTerm
  have hx : ∀ k, (xOf m c : S512x512.Idx → EReal) (ix2 r k) = A (ix2 (row (blockIx c) r) k) := fun k => by rw [hA c, block_apply]
  rw [hB c, block_apply]
  choose a ha using fun k => hfin c (ix2 r k)
  rw [show (fun k => A (ix2 (row (blockIx c) r) k)) = fun k => (a k : EReal) from funext fun k => (hx k).symm.trans (ha k),
    show (fun k => (xOf m c : S512x512.Idx → EReal) (ix2 r k)) = fun k => (a k : EReal) from funext ha, hat_eq]

omit hA hfin in
theorem part_beta_of (c : Dev nD) (l : Fin 512) :
    (partOf m c : S2x512.Idx → EReal) (ix2 (1 : Fin 2) l) = ∑ r : Fin 512, B (ix2 (row (blockIx c) r) l) := by
  unfold partOf
  rw [part_beta]
  exact Finset.sum_congr rfl fun r _ => by rw [hB c, block_apply]

omit hA hB hfin in
/-- A pair's two blocks of rows are all the rows. -/
theorem pair_sum (c : Dev nD) (f : Fin 1024 → EReal) :
    (∑ r : Fin 512, f (row (blockIx c) r)) + ∑ r : Fin 512, f (row (blockIx (peer c)) r) = ∑ r, f r := by
  rcases blockIx_cases c with ⟨h, h'⟩ | ⟨h, h'⟩
  · rw [h, h', sum_blocks]
  · rw [h, h', add_comm, sum_blocks]

theorem outOf_at (c : Dev nD) : ∀ (a : Fin 2) (l : Fin 512), (outOf m c : S2x512.Idx → EReal) (ix2 a l) = Ref.result A B (ix2 a l)
  | 0, l => by
    rw [outOf_apply, Ref.result_gamma, part_gamma_of m A B hA hB hfin, part_gamma_of m A B hA hB hfin, pair_sum]
    exact Finset.sum_congr rfl fun r _ => by rw [Ref.hat_row]; rfl
  | 1, l => by
    rw [outOf_apply, Ref.result_beta, part_beta_of m B hB, part_beta_of m B hB, pair_sum c fun r => B (ix2 r l)]

/-- Every device's result is the reference's. -/
theorem outOf_eq (c : Dev nD) : (outOf m c : S2x512.Idx → EReal) = Ref.result A B := funext fun j => by
  have hj : j = ix2 (j 0 : Fin 2) (j 1 : Fin 512) := (ValueIdx.eq_ix2 j).trans (ix2_eq_valueIdx _ _).symm
  exact (congrArg (outOf m c) hj).trans ((outOf_at m A B hA hB hfin c (j 0) (j 1)).trans (congrArg (Ref.result A B) hj).symm)

end

end Cert.NormGrad

end
-- ==== Proof.lean ====
/-
# The certificate

The kernel's run (`Launch`) is stated over any float values: its `Bits` instance is the printed program's frame, its
extended-real instance the ideal program's frame and, with `Blocks`, the value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Blocks
public import Idealize.ShloMosaic.Adequacy
public import Idealize.ShloMosaic.Init

@[expose] public section

noncomputable section

namespace Cert.Proof

open Idealize.ShloMosaic Idealize.ShloMosaic.TcCoe Idealize.SL.Sem

instance facts_pre_kernel : Cert.Pre_x_finite_KernelIdeal.Facts := ⟨by decide, by decide, by decide⟩
instance facts_pre_reference : Cert.Pre_x_finite_ReferenceIdeal.Facts := ⟨by decide, by decide, by decide⟩

/-- The printed kernel and its ideal program have the same text: the run at the words is the printed kernel's. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Cert.NormGrad.run_main (F := Bits) m ρ)

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.NormGrad.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Every device's result is the reference's result on the whole arrays. -/
theorem value : Cert.algebraic_KernelIdeal_ReferenceIdeal_pre_x_finite_KernelIdeal := fun m ρ m' ρ' hpre h =>
  ⟨Cert.NormGrad.Ref.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).2.2.2.trans (Cert.NormGrad.outOf_eq m _ _ (fun c => (h c).1) (fun c => (h c).2.1)
        (fun c i => Cert.NormGrad.finite_of _ _ _ (hpre c) i) c), (hr.1 c).1, (hr.1 c).2.1, (hr.1 c).2.2.1⟩)
      (Cert.NormGrad.run_main (F := Ideal) m ρ),
    (θ_run Cert.ReferenceIdeal.defs _ _).mono (fun _ hr => ⟨(hr 0).1, (hr 0).2⟩) (Cert.ReferenceIdeal.Value.run m' ρ')⟩

theorem claim : Cert.Claim :=
  ⟨Cert.Kernel.Gen.facts, Cert.KernelIdeal.Gen.facts, Cert.ReferenceIdeal.Gen.facts, facts_pre_kernel, facts_pre_reference,
    frame_kernel, frame_ideal, fun m ρ _ => frame_ideal m ρ trivial, frame_reference, fun m ρ _ => frame_reference m ρ trivial, trivial, value⟩

end Cert.Proof

end
